-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0123_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x512x512 : Shape := ⟨3, ![1, 512, 512]⟩
abbrev S4 : Shape := ⟨1, ![4]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x512x512, .f32⟩
  | .hbm, ⟨1, _⟩ => ⟨S4, .i32⟩
  | .hbm, ⟨2, _⟩ => ⟨S1x512x512, .f32⟩
  | .local _ .smem, ⟨0, _⟩ => ⟨S4, .i32⟩
  | _, _ => ⟨S1x512x512, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : Index := Scalar.indexCast v5
  ![v9.toNat]
def k0_dev1 (d0 : Dev nD) (v11 : BitVec 32) (v14 : BitVec 32) (v17 : BitVec 32) (v20 : BitVec 32) : Nat :=
  let c0_i32_7 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v24 : BitVec 32 := Scalar.muli v2 c16_i32_6
  let v25 : BitVec 32 := Scalar.addi c0_i32_7 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_8 : BitVec 32 := 4#32
  let v26 : BitVec 32 := Scalar.muli v22 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v28 : BitVec 32 := Scalar.muli v8 c1_i32_9
  let v29 : BitVec 32 := Scalar.addi v27 v28
  v29.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) (v10 : BitVec 32) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v30 : BitVec 32 := Scalar.muli v2 c16_i32_11
  let v31 : BitVec 32 := Scalar.addi c0_i32_12 v30
  let c4_i32_13 : BitVec 32 := 4#32
  let v32 : BitVec 32 := Scalar.muli v10 c4_i32_13
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v34 : BitVec 32 := Scalar.muli v8 c1_i32_14
  let v35 : BitVec 32 := Scalar.addi v33 v34
  v35.toNat

def k0_chk2 (d0 : Dev nD) (v10 : BitVec 32) : Prop :=
  ((k0_dev2 d0 v10) < nD)
theorem k0_dev2_lt : ∀ (d0 : Dev nD) (v10 : BitVec 32) (k0_hw2 : k0_chk2 d0 v10), (k0_dev2 d0 v10) < nD := fun d0 v10 k0_hw2 => k0_hw2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x512x512 : Shape := ⟨3, ![4, 512, 512]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Mesh.lean ====
/-
The mesh of the kernel and the arithmetic of its device words.

The 32 devices are numbered `16 x + 4 y + z`. A table `σ`, a permutation of the four places of the `y` axis, says
where each place's block goes: place `y` sends to place `σ y` at the same `x` and `z`. This module defines the device
that a device sends to and the one it receives from, and shows that the kernel's two device words compute exactly them.
-/
module

public import proofs.«01_k».proof.Proof.Gen.KernelIdeal
public import proofs.«01_k».proof.Proof.Gen.KernelIdeal.Skeleton

@[expose] public section

noncomputable section

namespace Cert.Perm

open Cert.KernelIdeal
open Idealize.ShloMosaic

/-- The place of a device along the `y` axis. -/
def row (c : Dev nD) : Fin 4 := ⟨c.val / 4 % 4, Nat.mod_lt _ (by decide)⟩

/-- The device at the same `x` and `z` as `c`, at place `y`. -/
def move (c : Dev nD) (y : Fin 4) : Dev nD :=
  ⟨16 * (c.val / 16) + 4 * y.val + c.val % 4, by have := c.isLt; have := y.isLt; unfold nD at *; omega⟩

/-- A moved device is at the place it was moved to. -/
theorem row_move (c : Dev nD) (y : Fin 4) : row (move c y) = y := by
  have := c.isLt; have := y.isLt
  apply Fin.ext; show (16 * (c.val / 16) + 4 * y.val + c.val % 4) / 4 % 4 = y.val; omega

/-- Only the last move counts. -/
theorem move_move (c : Dev nD) (y z : Fin 4) : move (move c y) z = move c z := by
  have := c.isLt; have := y.isLt; have := z.isLt
  apply Fin.ext
  show 16 * ((16 * (c.val / 16) + 4 * y.val + c.val % 4) / 16) + 4 * z.val + (16 * (c.val / 16) + 4 * y.val + c.val % 4) % 4
    = 16 * (c.val / 16) + 4 * z.val + c.val % 4
  omega

/-- A device moved to its own place is itself. -/
theorem move_row (c : Dev nD) : move c (row c) = c := by
  apply Fin.ext; show 16 * (c.val / 16) + 4 * (c.val / 4 % 4) + c.val % 4 = c.val; omega

section Perm
variable (σ : Equiv.Perm (Fin 4))

/-- The device that `c` sends its block to; -/
def dst (c : Dev nD) : Dev nD := move c (σ (row c))
/-- the one whose block `c` receives. -/
def src (c : Dev nD) : Dev nD := move c (σ.symm (row c))

/-- Receiving undoes sending, -/
theorem src_dst (c : Dev nD) : src σ (dst σ c) = c := by
  unfold src dst; rw [row_move, Equiv.symm_apply_apply, move_move, move_row]
/-- and sending undoes receiving: -/
theorem dst_src (c : Dev nD) : dst σ (src σ c) = c := by
  unfold src dst; rw [row_move, Equiv.apply_symm_apply, move_move, move_row]

/-- so that sending permutes the devices. -/
def ring : Dev nD ≃ Dev nD := ⟨dst σ, src σ, src_dst σ, dst_src σ⟩

/-- Entry `i` of the table, as the word the kernel reads. -/
def word (i : Fin 4) : BitVec 32 := BitVec.ofNat 32 (σ i).val

end Perm

/-- The kernel's second device word, computed from the table's entry, is the device moved to that entry. -/
theorem dev2_word : ∀ (c : Dev nD) (y : Fin 4), k0_dev2 c (BitVec.ofNat 32 y.val) = (move c y).val := by decide +kernel

/-- The kernel's search for a place in the table: the last of the four entries that equals it (and 0 if none does). -/
def search (y a b e f : BitVec 32) : BitVec 32 :=
  Scalar.select (Scalar.cmpi .eq f y) 3#32 (Scalar.select (Scalar.cmpi .eq e y) 2#32
    (Scalar.select (Scalar.cmpi .eq b y) 1#32 (Scalar.select (Scalar.cmpi .eq a y) 0#32 0#32)))

/-- The search finds the one entry that equals the place. -/
theorem search_word : ∀ a b e f y s : Fin 4, (∀ t, (![a, b, e, f] : Fin 4 → Fin 4) t = y ↔ t = s) →
    search (BitVec.ofNat 32 y.val) (BitVec.ofNat 32 a.val) (BitVec.ofNat 32 b.val) (BitVec.ofNat 32 e.val) (BitVec.ofNat 32 f.val)
      = BitVec.ofNat 32 s.val := by decide +kernel

/-- The place word of a device, as the kernel computes it. -/
theorem row_word : ∀ c : Dev nD, Scalar.remsi (Scalar.divsi (Dev.word c) 4#32) 4#32 = BitVec.ofNat 32 (row c).val := by decide +kernel

/-- The kernel's first device word is its second one computed from the search's result. -/
theorem dev1_search (c : Dev nD) (a b e f : BitVec 32) :
    k0_dev1 c a b e f = k0_dev2 c (search (Scalar.remsi (Scalar.divsi (Dev.word c) 4#32) 4#32) a b e f) := rfl

/-- With the table of `σ` the first device word is the device to receive from; -/
theorem dev1_eq (σ : Equiv.Perm (Fin 4)) (c : Dev nD) : k0_dev1 c (word σ 0) (word σ 1) (word σ 2) (word σ 3) = (src σ c).val := by
  rw [dev1_search, row_word]
  unfold word
  rw [search_word (σ 0) (σ 1) (σ 2) (σ 3) (row c) (σ.symm (row c))
    (fun t => by rw [Equiv.eq_symm_apply]; fin_cases t <;> rfl), dev2_word]
  rfl

/-- the second is the device to send to. -/
theorem dev2_eq (σ : Equiv.Perm (Fin 4)) (c : Dev nD) : k0_dev2 c (word σ (row c)) = (dst σ c).val := dev2_word c (σ (row c))

end Cert.Perm

end
-- ==== Proof.Protocol.lean ====
/-
Who pays which semaphore, and what each payment hands over.

Under a table `σ`, device `c` sends its block to `dst σ c` and receives one from `src σ c`. Every device has three
semaphores, each used once:

* its BARRIER is paid one unit by the device it will send to, `dst σ c`, which thereby lends `c` its result buffer;
  `c` waits for that unit before it starts its copy;
* its SEND semaphore is paid by its own copy, which gives the block of `x` back to `c`;
* its RECEIVE semaphore is paid by the copy of `src σ c`: the result buffer comes back, holding that device's block.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Perm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The ghost state: the pipeline's rounds, and the rounds of this exchange, whose semaphores have one duty each. -/
abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (σ : Equiv.Perm (Fin 4)) (m : (ℓ : Loc nD τ sig) → Buf (Elt F) ℓ)

/-! ## The buffers and the semaphores -/

/-- The block of `x` that a device holds, and its result. -/
abbrev xM : Memref sig .tc .hbm S1x512x512 .f32 := Memref.whole main_arg0
abbrev yM : Memref sig .tc .hbm S1x512x512 .f32 := Memref.whole main_v1

abbrev barS : Sem sig := (SemArray.scalar (sig.barrier 0 rfl) : Sems sig S_).sem
abbrev sndS : DmaSem sig := (cc0_scratch0 : DmaSems sig S_).sem
abbrev rcvS : DmaSem sig := (cc0_scratch1 : DmaSems sig S_).sem

/-- A device's three semaphores, -/
abbrev sems : Fin 3 → SemLoc sig := fun | 0 => .reg barS | 1 => .dma sndS | 2 => .dma rcvS
/-- the two of them that belong to the kernel's launch, -/
abbrev own : Fin 2 → SemLoc sig := fun | 0 => .dma sndS | 1 => .dma rcvS
/-- and all of them on all devices. -/
abbrev cell (ck : Dev nD × Fin 3) : GSem nD τ sig := ((ck.1 : Thread nD τ), sems ck.2)

abbrev bar (c : Dev nD) : GSem nD τ sig := cell (c, 0)
abbrev snd (c : Dev nD) : GSem nD τ sig := cell (c, 1)
abbrev rcv (c : Dev nD) : GSem nD τ sig := cell (c, 2)

/-- The three semaphores are different, -/
theorem sems_inj : Function.Injective sems := by decide

/-- and so are those of all devices. -/
theorem cell_inj : Function.Injective (cell : Dev nD × Fin 3 → GSem nD τ sig) := fun ⟨c, k⟩ ⟨c', k'⟩ h => by
  obtain rfl : c = c' := congrArg (fun g : GSem nD τ sig => g.1.1) h
  obtain rfl : k = k' := sems_inj (congrArg Prod.snd h)
  rfl

/-- What a copy of a block pays: its credit. -/
abbrev N : ℕ := (yM : Memref sig .tc .hbm S1x512x512 .f32).view.dmaCredit
/-- That credit is not zero. -/
theorem N_pos : 0 < N := View.dmaCredit_pos _ (by decide)

/-! ## Ownership of the buffers -/

/-- Device `c` holds its block of `x`, as at launch. -/
def xPts (c : Dev nD) : sProp 𝕄 :=
  (xM : Memref sig .tc .hbm S1x512x512 .f32).view.loc (c : Thread nD τ) ↦[(xM : Memref sig .tc .hbm S1x512x512 .f32).view.set]{fullShare} m ((c : Thread nD τ).loc main_arg0)
/-- Somebody holds device `c`'s result buffer, with contents `f`. -/
def yPts (c : Dev nD) (f : Buf (Elt F) ((c : Thread nD τ).loc main_v1)) : sProp 𝕄 :=
  (yM : Memref sig .tc .hbm S1x512x512 .f32).view.loc (c : Thread nD τ) ↦[(yM : Memref sig .tc .hbm S1x512x512 .f32).view.set]{fullShare} f

/-- The contents that land on device `c`: the block of the device it receives from. -/
def landed (c : Dev nD) : Buf (Elt F) ((c : Thread nD τ).loc main_v1) := m ((src σ c : Thread nD τ).loc main_arg0)

/-- Holding a block is holding its whole buffer, with its contents at launch; -/
theorem xPts_eq (c : Dev nD) : xPts m c = (((c : Thread nD τ).loc main_arg0) ↦{fullShare} m ((c : Thread nD τ).loc main_arg0) : sProp 𝕄) := by
  unfold xPts; rw [View.set_whole]
/-- holding a result is holding its whole buffer. -/
theorem yPts_eq (c : Dev nD) (f) : yPts c f = (((c : Thread nD τ).loc main_v1) ↦{fullShare} f : sProp 𝕄) := by
  unfold yPts; rw [View.set_whole]

/-- A copy of a whole block over a whole result buffer leaves exactly the block. -/
theorem copied (f : (main_v1 : Ref sig .tc).ty.Contents (Elt F)) (g : (main_arg0 : Ref sig .tc).ty.Contents (Elt F)) :
    (yM : Memref sig .tc .hbm S1x512x512 .f32).view.write (Elt F) f ((xM : Memref sig .tc .hbm S1x512x512 .f32).view.read (Elt F) g) Finset.univ = g := by
  show (View.whole main_v1).write (Elt F) f ((View.whole main_arg0).read (Elt F) g) Finset.univ = g
  rw [View.read_whole]; exact View.write_whole_univ _ _ _

/-! ## The schedule -/

/-- What one payment on semaphore `s` of device `c` hands over. -/
def pay (c : Dev nD) (s : SemLoc sig) : sProp 𝕄 :=
  if s = sems 0 then iprop(∃ f, yPts (dst σ c) f) else if s = sems 1 then xPts m c else if s = sems 2 then yPts c (landed σ m c) else iprop(emp)

/-- A payment can be kept in an invariant, -/
instance pay_storable (c : Dev nD) (s : SemLoc sig) : BI.Storable (upEmb : UEmb _ 𝕄) (pay (F := F) σ m c s) := by
  unfold pay xPts yPts; (repeat' split) <;> infer_instance

/-- One round; in it every device's three semaphores have one duty. -/
def plan : Rounds.Schedule (GSem nD τ sig) Unit 𝕄 where
  duties g r := if r = 0 ∧ ∃ ck, cell ck = g then {()} else ∅
  unitless _ := False
  amount g _ _ := if g.2 = sems 0 then 1 else N
  payload g _ _ := pay σ m g.1.1 g.2
  amount_pos g _ _ _ := by
    by_cases h : g.2 = sems 0
    · rw [if_pos h]; exact Nat.one_pos
    · rw [if_neg h]; exact N_pos

/-- and so can what the schedule says that a duty hands over. -/
instance plan_storable (g : GSem nD τ sig) (r : ℕ) (d : Unit) : BI.Storable (upEmb : UEmb _ 𝕄) ((plan (F := F) σ m).payload g r d) :=
  pay_storable σ m g.1.1 g.2

/-- Each semaphore has its one duty in the first round, -/
theorem duties_zero (ck : Dev nD × Fin 3) : (plan (F := F) σ m).duties (cell ck) 0 = {()} := if_pos ⟨rfl, ck, rfl⟩
/-- which is therefore among that round's duties, -/
theorem duty_mem (ck : Dev nD × Fin 3) : () ∈ (plan (F := F) σ m).duties (cell ck) 0 := by rw [duties_zero]; exact Finset.mem_singleton_self _
/-- and it has none in a later round. -/
theorem duties_succ (g : GSem nD τ sig) (r : ℕ) (h : 1 ≤ r) : (plan (F := F) σ m).duties g r = ∅ := if_neg fun h' => by omega

/-- A barrier is paid one unit, a copy's semaphore its credit. -/
def due (k : Fin 3) : ℕ := if k = 0 then 1 else N
/-- The one payment on a semaphore is what is due, -/
theorem amount_cell (ck : Dev nD × Fin 3) : (plan (F := F) σ m).amount (cell ck) 0 () = due ck.2 := by
  obtain ⟨c, k⟩ := ck
  show (if sems k = sems 0 then 1 else N) = if k = 0 then 1 else N
  exact if_congr sems_inj.eq_iff rfl rfl
/-- and so is the round's total. -/
theorem expect_cell (ck : Dev nD × Fin 3) : (plan (F := F) σ m).expect (cell ck) 0 = due ck.2 := by
  unfold Schedule.expect Schedule.amountOf; rw [duties_zero, Finset.sum_singleton, amount_cell]

/-- Everything a semaphore's round hands over is its one payment. -/
theorem rest_cell (ck : Dev nD × Fin 3) :
    bigSep ((plan (F := F) σ m).duties (cell ck) 0 \ ∅) (fun u => (plan (F := F) σ m).payload (cell ck) 0 u) = pay σ m ck.1 (sems ck.2) := by
  rw [Finset.sdiff_empty, duties_zero, bigSep_singleton]; rfl

/-- A barrier's payment lends the result buffer of the device to send to, -/
theorem pay_bar (c : Dev nD) : pay (F := F) σ m c (sems 0) = iprop(∃ f, yPts (dst σ c) f) := if_pos rfl
/-- a send semaphore's gives the block back, -/
theorem pay_snd (c : Dev nD) : pay (F := F) σ m c (sems 1) = xPts m c := (if_neg (by decide)).trans (if_pos rfl)
/-- a receive semaphore's gives the result buffer with the landed block. -/
theorem pay_rcv (c : Dev nD) : pay (F := F) σ m c (sems 2) = yPts c (landed σ m c) :=
  (if_neg (by decide)).trans ((if_neg (by decide)).trans (if_pos rfl))

/-! ## Debts and levels: why no wait is for ever -/

/-- At launch a device owes the copy to the device it sends to, and one unit to the barrier of the device it receives from. -/
def debt (c : Dev nD) : CellTallies nD τ sig Unit := tallyAt (rcv (dst σ c)) () N + tallyAt (bar (src σ c)) () 1

/-- Every semaphore of a TensorCore has the one label. -/
def L (g : GSem nD τ sig) : Finset Unit := if g.1.2 = .tc then {()} else ∅
/-- Barriers come before receptions; everything else comes first. -/
def lv (g : GSem nD τ sig) (_ : Unit) : ℕ := if g.2 = sems 0 then 1 else if g.2 = sems 2 then 2 else 0
/-- Semaphores of other threads have no label, -/
theorem L_other (g : GSem nD τ sig) (h : g.1.2 ≠ .tc) : L g = ∅ := if_neg h
/-- and those of a TensorCore have every label there is. -/
theorem L_core (c : Dev nD) (s : SemLoc sig) (u : Unit) : u ∈ L ((c : Thread nD τ), s) := by
  show u ∈ (if (c : Thread nD τ).2 = .tc then ({()} : Finset Unit) else ∅); rw [if_pos rfl]; exact Finset.mem_singleton_self _

/-- A barrier's level is 1, -/
theorem lv_bar (c : Dev nD) (u : Unit) : lv (bar c) u = 1 := if_pos rfl
/-- a receive semaphore's is 2. -/
theorem lv_rcv (c : Dev nD) (u : Unit) : lv (rcv c) u = 2 := (if_neg (show ¬ sems 2 = sems 0 by decide)).trans (if_pos rfl)

/-- While a device waits for the table's copy into its scratch memory it may owe all of its debt. -/
theorem wait_stage (c : Dev nD) (s : SemLoc sig) (h0 : s ≠ sems 0) (h2 : s ≠ sems 2) : (levAts L lv : sProp 𝕄) ⊢ MayWait (c : Thread nD τ) s () (debt σ c) :=
  Pipeline.mayWait_of_levAts (L_core c s ()) fun g u h => by
    have hs : lv ((c : Thread nD τ), s) () = 0 := by unfold lv; rw [if_neg h0, if_neg h2]
    rw [hs]
    rcases Pipeline.add_pos_cases h with h | h <;> obtain ⟨rfl, -⟩ := Pipeline.tallyAt_pos h
    · exact ⟨L_core _ _ _, by rw [lv_rcv]; decide⟩
    · exact ⟨L_core _ _ _, by rw [lv_bar]; decide⟩

/-- While it waits on its barrier it owes only its copy. -/
theorem wait_bar (c : Dev nD) : (levAts L lv : sProp 𝕄) ⊢ MayWait (c : Thread nD τ) (sems 0) () (tallyAt (rcv (dst σ c)) () N) :=
  Pipeline.mayWait_of_levAts (L_core c _ ()) fun g u h => by
    obtain ⟨rfl, -⟩ := Pipeline.tallyAt_pos h; exact ⟨L_core _ _ _, by rw [show lv ((c : Thread nD τ), sems 0) () = 1 from lv_bar c (), lv_rcv]; decide⟩

end Cert.Perm

end
-- ==== Proof.Body.lean ====
/-
The kernel's body on one device, followed effect by effect.

The device reads the table (five words), signals the device it will receive from that its result buffer is free, waits
for the same word from the device it will send to, copies its block into that device's result buffer, and waits for
both ends of the two copies it takes part in.
-/
module

public import proofs.«01_k».proof.Proof.Protocol
public import proofs.«01_k».proof.Proof.Gen.KernelIdeal.Points

@[expose] public section

noncomputable section

namespace Cert.Perm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (σ : Equiv.Perm (Fin 4)) (m : (ℓ : Loc nD τ sig) → Buf (Elt F) ℓ)

/-! ## The table in scratch memory -/

/-- Every device's table is that of `σ`. -/
def Tbl : Prop := ∀ (c : Dev nD) (i : S4.Idx), (m ((c : Thread nD τ).loc main_arg1) : IVec S4 32) i = word σ (i 0)

abbrev tM : Memref sig .tc .smem S4 .i32 := Memref.whole cc0_stg0_0

/-- The table as it lies in device `c`'s scratch memory. -/
def table (c : Dev nD) : (cc0_stg0_0 : Ref sig .tc).ty.Contents (Elt F) :=
  (win0_0.blk (0 : Fin 1)).view.read (Elt F) (m ((c : Thread nD τ).loc main_arg1))

/-- The word a scalar load at rectangle `r` reads. -/
abbrev entry (r : Rect S4) (hr : r.shape.numel = 1) (f : (cc0_stg0_0 : Ref sig .tc).ty.Contents (Elt F)) : BitVec 32 :=
  ((tM).access r : View sig .tc _ _ _).read (Elt F) f (Shape.Idx.first (hr.symm ▸ Nat.one_pos))

variable {σ m}

/-- A load at offset `k` reads the table's entry `k`. -/
theorem entry_table (h : Tbl σ m) (c : Dev nD) (off : Fin 1 → ℕ) (inb : ∀ a, off a + S1.size a ≤ S4.size a) (k : Fin 4) (hk : off 0 = k.val) :
    entry (F := F) (Rect.unit (s := S4) off S1.size inb) numel1_S1 (table m c) = word σ k := by
  refine (h c _).trans (congrArg (word σ) (Fin.ext ?_))
  have hf : (Shape.Idx.first (s := (Rect.unit (s := S4) off S1.size inb).shape) ((numel1_S1 : S1.numel = 1).symm ▸ Nat.one_pos) 0).val = 0 :=
    Nat.lt_one_iff.mp (Shape.Idx.first (s := (Rect.unit (s := S4) off S1.size inb).shape) ((numel1_S1 : S1.numel = 1).symm ▸ Nat.one_pos) 0).isLt
  show 0 * 4 + 1 * (off 0 + 1 * (Shape.Idx.first (s := (Rect.unit (s := S4) off S1.size inb).shape) ((numel1_S1 : S1.numel = 1).symm ▸ Nat.one_pos) 0).val) = k.val
  rw [hf]; omega

variable (σ m)

/-! ## What a device starts with and ends with -/

/-- The shared records device `c` acts on: its own three semaphores', the barrier it signals, the reception it pays. -/
def shared (K : Dev nD × Fin 3 → ℕ) (c : Dev nD) : sProp 𝕄 :=
  iprop(cellInv ER (plan σ m) (K (c, 0)) (bar c) ∗ cellInv ER (plan σ m) (K (c, 1)) (snd c) ∗ cellInv ER (plan σ m) (K (c, 2)) (rcv c)
    ∗ cellInv ER (plan σ m) (K (src σ c, 0)) (bar (src σ c)) ∗ cellInv ER (plan σ m) (K (dst σ c, 2)) (rcv (dst σ c))
    ∗ reached ER (bar (src σ c)) 0 ∗ reached ER (snd c) 0 ∗ reached ER (rcv (dst σ c)) 0)
/-- The shared records can be used any number of times. -/
instance shared_persistent (K : Dev nD × Fin 3 → ℕ) (c : Dev nD) : BI.Persistent (shared (F := F) σ m K c) := by unfold shared; infer_instance

/-- The right to make the three payments that device `c` makes. -/
def dues (c : Dev nD) : sProp 𝕄 := iprop(dutyTok ER (bar (src σ c)) 0 () ∗ dutyTok ER (snd c) 0 () ∗ dutyTok ER (rcv (dst σ c)) 0 ())

/-- The right to wait on its own three semaphores. -/
def turns (c : Dev nD) : sProp 𝕄 := iprop(atPos ER (bar c) 0 ∅ 0 ∗ atPos ER (snd c) 0 ∅ 0 ∗ atPos ER (rcv c) 0 ∅ 0)

/-- All that a device acts with: the records, its waits and its payments. -/
def ghost (K : Dev nD × Fin 3 → ℕ) (c : Dev nD) : sProp 𝕄 := iprop(shared σ m K c ∗ turns c ∗ dues σ c)

/-- Before the body: the rights, the credits of the two payments others owe `c`, its block and its result buffer. -/
def entering (c : Dev nD) : sProp 𝕄 :=
  iprop((∃ K, ghost σ m K c) ∗ cred (tallyAt (bar c) () 1) ∗ cred (tallyAt (rcv c) () N) ∗ levAts L lv ∗ xPts m c ∗ ∃ f, yPts c f)
/-- After it: the block unchanged, the result landed, and the three semaphores back at zero. -/
def leaving (c : Dev nD) : sProp 𝕄 :=
  iprop(xPts m c ∗ yPts c (landed σ m c) ∗ semVal (bar c) 0 ∗ semVal (snd c) 0 ∗ semVal (rcv c) 0)

/-- The proof data of the launch: its one window is the table, which the body leaves alone. -/
def dats (_ : Fin 1) (c : Dev nD) : Dat τ (Elt F) Unit ℕ UU ℕ cfg0 c where
  A w := m ((cfg0.win w).arr.view.loc (c : Thread nD τ))
  after w _ := match w with
    | ⟨0, _⟩ => table m c
  Φ t := match t with
    | ⟨0, _⟩ => entering σ m c
    | ⟨_ + 1, _⟩ => leaving σ m c
  q _ := fullShare
  owed t := match t with
    | ⟨0, _⟩ => debt σ c
    | ⟨_ + 1, _⟩ => 0

/-! ## The effects -/

section Effects
variable (K : Dev nD × Fin 3 → ℕ) (c : Dev nD) (W : Waits sig Unit)

/-- The program with continuation `k` runs to `Q` on device `c`. -/
abbrev Runs (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The signal: device `c` lends its result buffer to the device it receives from. -/
theorem signal_step {α : Type} {Q : α → sProp 𝕄} {k : PUnit → Prog (TpuEff nD τ sig (Elt F) Λ₀ .tc) α}
    (n : Dev nD) (hn : n = src σ c) (f : Buf (Elt F) ((c : Thread nD τ).loc main_v1)) :
    iprop(shared σ m K c ∗ owes (c : Thread nD τ) (debt σ c) W ∗ dutyTok ER (bar (src σ c)) 0 () ∗ yPts c f)
      ⊢ iprop((owes (c : Thread nD τ) (tallyAt (rcv (dst σ c)) () N) W -∗ Runs c (k ⟨⟩) Q)
          -∗ Runs c (.op (.semSignal (Dev.tc n) barS (1#32 : BitVec 32).toInt) k) Q) := by
  subst hn
  rw [show (1#32 : BitVec 32).toInt = ((1#32 : BitVec 32).toNat : Int) from rfl]
  unfold shared
  iintro ⟨⟨-, -, -, #HI, -, #HR, -, -⟩, HO, Ht, Hy⟩ Hk
  iapply (Rounds.wp_signal Variants.none ER (plan σ m) (c : Thread nD τ) none (dst := (src σ c : Thread nD τ)) (κ := K (src σ c, 0))
      (duty_mem σ m (src σ c, 0)) ((amount_cell σ m (src σ c, 0)).trans rfl) () (O₀ := debt σ c) (tallyAt (rcv (dst σ c)) () N) rfl) $$ [HO Ht Hy]
  · isplitr; · iexact HI
    isplitl [HO]; · iexact HO
    isplitl [Ht]; · iexact Ht
    isplitl [Hy]
    · iapply (show iprop(∃ f, yPts (dst σ (src σ c)) f) ⊢ (plan (F := F) σ m).payload (bar (src σ c)) 0 () from Entails.of_eq (pay_bar σ m (src σ c)).symm)
      rw [dst_src]; iexists f; iexact Hy
    iexact HR
  iexact Hk

/-- The wait on the barrier: the device that `c` sends to lends its result buffer. -/
theorem barrier_step {α : Type} {Q : α → sProp 𝕄} {k : PUnit → Prog (TpuEff nD τ sig (Elt F) Λ₀ .tc) α} :
    iprop(shared σ m K c ∗ levAts L lv ∗ cred (tallyAt (bar c) () 1) ∗ owes (c : Thread nD τ) (tallyAt (rcv (dst σ c)) () N) W ∗ atPos ER (bar c) 0 ∅ 0)
      ⊢ iprop(((owes (c : Thread nD τ) (tallyAt (rcv (dst σ c)) () N) (insert (sems 0, ()) W) ∗ atPos ER (bar c) (0 + 1) ∅ 0 ∗ ∃ f, yPts (dst σ c) f) -∗ Runs c (k ⟨⟩) Q)
          -∗ Runs c (.op (.semWait barS (1#32 : BitVec 32).toInt) k) Q) := by
  rw [show (1#32 : BitVec 32).toInt = ((1#32 : BitVec 32).toNat : Int) from rfl]
  unfold shared
  iintro ⟨⟨#HI, -, -, -, -, -, -, -⟩, #Hlev, Hc, HO, Hat⟩ Hk
  iapply (Rounds.wp_wait_rest_token Variants.none ER (plan σ m) (c : Thread nD τ) none (κ := K (c, 0))
      (wpE_semWait_eq Variants.none (c : Thread nD τ) none Set.univ) (Set.mem_univ _) () (O := tallyAt (rcv (dst σ c)) () N) (W := W) (R := 0) (m := 0) (T := ∅)
      (by rw [expect_cell σ m (c, 0)]; rfl)) $$ [Hc HO Hat]
  · isplitr; · iexact HI
    isplitl [Hc]; · iexact Hc
    isplitl [HO]; · iexact HO
    isplitr; · iapply (wait_bar σ c); iexact Hlev
    iexact Hat
  iintro ⟨HO, Hat, -, Hp⟩
  ihave Hp := (Entails.of_eq ((rest_cell σ m (c, 0)).trans (pay_bar σ m c))) $$ Hp
  iapply Hk
  isplitl [HO]; · iexact HO
  isplitl [Hat] <;> iassumption

/-- The copy: `c`'s block and the lent buffer go into flight, and `c` owes nothing more. -/
theorem copy_step {α : Type} {Q : α → sProp 𝕄} {k : PUnit → Prog (TpuEff nD τ sig (Elt F) Λ₀ .tc) α}
    (n : Dev nD) (hn : n = dst σ c) {hsc : (yM : Memref sig (Dev.tc n : Thread nD τ).2.kind .hbm S1x512x512 .f32).view.ref.isScScratch = false}
    {hsrc : (xM : Memref sig .tc .hbm S1x512x512 .f32).view.WordExact} {hdst : (yM : Memref sig .tc .hbm S1x512x512 .f32).view.WordExact}
    {hsem : DmaTarget.Typed .hbm (.dma rcvS) (.remote (Dev.tc n : Thread nD τ) (yM : Memref sig .tc .hbm S1x512x512 .f32) (.dma sndS) hsc)}
    (f : Buf (Elt F) ((dst σ c : Thread nD τ).loc main_v1)) :
    iprop(shared σ m K c ∗ xPts m c ∗ yPts (dst σ c) f ∗ owes (c : Thread nD τ) (tallyAt (rcv (dst σ c)) () N) W
        ∗ dutyTok ER (snd c) 0 () ∗ dutyTok ER (rcv (dst σ c)) 0 ())
      ⊢ iprop(((cred (tallyAt (snd c) () N) ∗ owes (c : Thread nD τ) 0 W) -∗ Runs c (k ⟨⟩) Q)
          -∗ Runs c (.op (.enqueueDma xM (.remote (Dev.tc n : Thread nD τ) yM (.dma sndS) hsc) (.dma rcvS) hsrc hdst hsem) k) Q) := by
  subst hn
  unfold shared
  iintro ⟨⟨-, #HIs, -, -, #HIr, -, #HRs, #HRr⟩, Hx, Hy, HO, Hts, Htr⟩ Hk
  unfold xPts yPts
  iapply (Rounds.wp_send_pointsTo Variants.none ER (plan σ m) (c : Thread nD τ) none (κ₁ := K (c, 1)) (κ₂ := K (dst σ c, 2))
      (r₁ := 0) (r₂ := 0) (d₁ := ()) (d₂ := ()) (fd := f) (duty_mem σ m (c, 1)) (duty_mem σ m (dst σ c, 2))
      () () N rfl (amount_cell σ m (c, 1)) (amount_cell σ m (dst σ c, 2)) 0 (by rw [zero_add]) (W := W)
      (Entails.of_eq (pay_snd σ m c).symm)
      (by
        rw [copied]
        refine Entails.of_eq (Eq.trans ?_ (pay_rcv σ m (dst σ c)).symm)
        unfold yPts landed; rw [src_dst])) $$ [Hx Hy HO Hts Htr]
  · isplitr; · iexact HIs
    isplitr; · iexact HIr
    isplitl [Hx]; · iexact Hx
    isplitl [Hy]; · iexact Hy
    isplitl [HO]; · iexact HO
    isplitl [Hts]; · iexact Hts
    isplitr; · iexact HRs
    isplitl [Htr]; · iexact Htr
    iexact HRr
  iexact Hk

/-- A wait for one end of a copy (`j` is the send or the receive semaphore): what that end hands over comes with it. -/
theorem landing_step {α : Type} {Q : α → sProp 𝕄} {k : PUnit → Prog (TpuEff nD τ sig (Elt F) Λ₀ .tc) α}
    (j : Fin 3) (q : DmaSem sig) (hq : sems j = .dma q) (hj : due j = N) (a b : Memref sig .tc .hbm S1x512x512 .f32)
    {ha : a.view.WordExact} {hb : b.view.WordExact} (hN : b.view.dmaCredit = N) :
    iprop(cellInv ER (plan σ m) (K (c, j)) (cell (c, j)) ∗ cred (tallyAt (cell (c, j)) () N) ∗ owes (c : Thread nD τ) 0 W ∗ atPos ER (cell (c, j)) 0 ∅ 0)
      ⊢ iprop(((owes (c : Thread nD τ) 0 (insert (sems j, ()) W) ∗ atPos ER (cell (c, j)) (0 + 1) ∅ 0 ∗ pay σ m c (sems j)) -∗ Runs c (k ⟨⟩) Q)
          -∗ Runs c (.op (.waitDma2 q a b ha hb) k) Q) := by
  have hc : cell (c, j) = ((c : Thread nD τ), SemLoc.dma q) := congrArg (Prod.mk _) hq
  have hr := rest_cell (F := F) σ m (c, j)
  have he := expect_cell (F := F) σ m (c, j)
  rw [hc] at *
  rw [show (sems (c, j).2 : SemLoc sig) = sems j from rfl, hq] at hr
  rw [hq]
  iintro ⟨#HI, Hc, HO, Hat⟩ Hk
  iapply (Rounds.wp_wait_rest_token Variants.none ER (plan σ m) (c : Thread nD τ) none (κ := K (c, j))
      (wpE_waitDma2_eq Variants.none (c : Thread nD τ) none Set.univ) (Set.mem_univ _) () (O := 0) (W := W) (R := 0) (m := 0) (T := ∅)
      (by rw [he, hN]; exact (Nat.zero_add N).trans hj.symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hp⟩
  ihave Hp := (Entails.of_eq hr) $$ Hp
  iapply Hk
  isplitl [HO]; · iexact HO
  isplitl [Hat] <;> iassumption

end Effects

/-! ## The body -/

/-- The launch has one grid point. -/
theorem points : cfg0.N = 1 := by decide
/-- The launch's one grid point. -/
def pt : Fin cfg0.N := ⟨0, by rw [points]; exact Nat.one_pos⟩
/-- Every grid point is that one. -/
theorem only_pt (t : Fin cfg0.N) : t = pt := Fin.ext (by have := t.isLt; have := points; show t.val = 0; omega)

/-- A whole buffer in the form the launch hands it over. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Device `c`'s scratch memory holds `X`. -/
abbrev scratch (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

/-- What the body starts with: the table in scratch memory, and what the device holds on entering. -/
def bodyPre (c : Dev nD) : sProp 𝕄 :=
  iprop(entering σ m c ∗ (dats σ m 0 c).owesAt () pt.castSucc ∗ ∃ d, scratch c ((dats σ m 0 c).before (0 : Fin 1) pt d))
/-- What it ends with. -/
def bodyPost (c : Dev nD) : sProp 𝕄 :=
  iprop(leaving σ m c ∗ (dats σ m 0 c).owesAt () pt.succ ∗ scratch c (table m c))

set_option maxHeartbeats 4000000 in
/-- THE BODY on device `c`, from what it starts with to what it ends with. -/
theorem body_runs (h : Tbl σ m) (c : Dev nD) (Q : PUnit → sProp 𝕄) :
    iprop(bodyPre σ m c ∗ (bodyPost σ m c -∗ Q ⟨⟩))
      ⊢ Runs c (cc0_body (Memref.whole cc0_stg0_0) (Memref.isWhole_whole _) (Memref.whole main_arg0) (Memref.isWhole_whole _)
          (Memref.whole main_v1) (Memref.isWhole_whole _) cc0_scratch0 cc0_scratch1) Q := by
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold bodyPre entering ghost turns dues
  iintro ⟨⟨⟨⟨%K, #HS, ⟨HaB, HaS, HaR⟩, HtB, HtS, HtR⟩, HcB, HcR, #Hlev, Hx, ⟨%f, Hy⟩⟩, Ho, ⟨%d, %g, %hg, Ht⟩⟩, Hk⟩
  have ht : g = table m c := by rw [hg]; unfold Dat.before; rw [if_pos (fetch0_0 pt)]; rfl
  subst ht
  unfold Dat.owesAt Pipeline.owesWithin
  icases Ho with ⟨%W, %hW, HO⟩
  rw [show (dats σ m 0 c).owed pt.castSucc = debt σ c from rfl]
  -- the five words of the table
  have e2 := entry_table h c (k0_off1 c) (k0_off1_inb c) (row c) (by rw [k0_off1_eq]; rfl)
  have e10 := entry_table h c ![0] inb_S4_S1_0 0 rfl
  have e11 := entry_table h c ![1] inb_S4_S1_1 1 rfl
  have e12 := entry_table h c ![2] inb_S4_S1_2 2 rfl
  have e13 := entry_table h c ![3] inb_S4_S1_3 3 rfl
  have hw2 : k0_chk2 c (entry (Rect.unit (s := S4) (k0_off1 c) S1.size (k0_off1_inb c)) numel1_S1 (table m c)) := by
    unfold k0_chk2; rw [e2, dev2_eq]; exact (dst σ c).isLt
  iapply (wp_load_rect Variants.none (c : Thread nD τ) none Set.univ (m := tM) (r := Rect.unit (s := S4) (k0_off1 c) S1.size (k0_off1_inb c)) (Finset.subset_univ _)) $$ Ht; iintro Ht
  simp only [wp_assume_of _ _ _ _ (d := k0_chk2.dec _ _) hw2]
  iapply (wp_load_rect Variants.none (c : Thread nD τ) none Set.univ (m := tM) (r := Rect.unit (s := S4) ![0] S1.size inb_S4_S1_0) (Finset.subset_univ _)) $$ Ht; iintro Ht
  iapply (wp_load_rect Variants.none (c : Thread nD τ) none Set.univ (m := tM) (r := Rect.unit (s := S4) ![1] S1.size inb_S4_S1_1) (Finset.subset_univ _)) $$ Ht; iintro Ht
  iapply (wp_load_rect Variants.none (c : Thread nD τ) none Set.univ (m := tM) (r := Rect.unit (s := S4) ![2] S1.size inb_S4_S1_2) (Finset.subset_univ _)) $$ Ht; iintro Ht
  iapply (wp_load_rect Variants.none (c : Thread nD τ) none Set.univ (m := tM) (r := Rect.unit (s := S4) ![3] S1.size inb_S4_S1_3) (Finset.subset_univ _)) $$ Ht; iintro Ht
  simp only [wp_assume_of _ _ _ _ (d := k0_chk1.dec _ _ _ _ _) (k0_chk1_all c _ _ _ _)]
  -- the signal, the wait, the copy
  iapply (signal_step σ m K c W _ (Fin.ext
    ((congr (congr (congr (congrArg (k0_dev1 c) e10) e11) e12) e13).trans (dev1_eq σ c))) f) $$ [HO HtB Hy]
  · isplitr; · iexact HS
    isplitl [HO]; · iexact HO
    isplitl [HtB] <;> iassumption
  iintro HO
  iapply (barrier_step σ m K c W) $$ [HcB HO HaB]
  · isplitr; · iexact HS
    isplitr; · iexact Hlev
    isplitl [HcB]; · iexact HcB
    isplitl [HO] <;> iassumption
  iintro ⟨HO, HaB, ⟨%f', Hy⟩⟩
  iapply (copy_step σ m K c (insert (sems 0, ()) W) _ (Fin.ext ((congrArg (k0_dev2 c) e2).trans (dev2_eq σ c))) f') $$ [Hx Hy HO HtS HtR]
  · isplitr; · iexact HS
    isplitl [Hx]; · iexact Hx
    isplitl [Hy]; · iexact Hy
    isplitl [HO]; · iexact HO
    isplitl [HtS] <;> iassumption
  iintro ⟨HcS, HO⟩
  -- the two landings
  unfold shared
  icases HS with ⟨HIb, HIs, HIr, -, -, -, -, -⟩
  iapply (landing_step σ m K c (insert (sems 0, ()) W) 1 sndS rfl rfl yM xM rfl) $$ [HcS HO HaS]
  · isplitr; · iexact HIs
    isplitl [HcS]; · iexact HcS
    isplitl [HO] <;> iassumption
  iintro ⟨HO, HaS, Hx⟩
  iapply (landing_step σ m K c (insert (sems 1, ()) (insert (sems 0, ()) W)) 2 rcvS rfl rfl xM yM rfl) $$ [HcR HO HaR]
  · isplitr; · iexact HIr
    isplitl [HcR]; · iexact HcR
    isplitl [HO] <;> iassumption
  iintro ⟨HO, HaR, Hy⟩
  -- the three semaphores close at zero
  imod (Rounds.cell_close ER (plan σ m) (Set.mem_univ (K (c, 0))) (fun h => h) (R := 0 + 1) (duties_succ σ m (bar c))) $$ [HaB] with HzB
  · isplitr; · iexact HIb
    iexact HaB
  imod (Rounds.cell_close ER (plan σ m) (Set.mem_univ (K (c, 1))) (fun h => h) (R := 0 + 1) (duties_succ σ m (snd c))) $$ [HaS] with HzS
  · isplitr; · iexact HIs
    iexact HaS
  imod (Rounds.cell_close ER (plan σ m) (Set.mem_univ (K (c, 2))) (fun h => h) (R := 0 + 1) (duties_succ σ m (rcv c))) $$ [HaR] with HzR
  · isplitr; · iexact HIr
    iexact HaR
  rw [wp_ret]; imodintro
  iapply Hk
  unfold bodyPost leaving Dat.owesAt Pipeline.owesWithin
  rw [show (dats σ m 0 c).owed pt.succ = 0 from rfl, ← pay_snd σ m c, ← pay_rcv σ m c]
  isplitl [Hx Hy HzB HzS HzR]
  · isplitl [Hx]; · iexact Hx
    isplitl [Hy]; · iexact Hy
    isplitl [HzB]; · iexact HzB
    isplitl [HzS] <;> iassumption
  isplitl [HO]
  · iexists (insert (sems 2, ()) (insert (sems 1, ()) (insert (sems 0, ()) W)))
    isplitr; · ipureintro; exact fun _ _ => Or.inl trivial
    iexact HO
  iexists _; isplitr; · (ipureintro; rfl)
  iexact Ht

end Cert.Perm

end
-- ==== Proof.Run.lean ====
/-
The whole run: from any memory whose tables are that of a permutation `σ`, every execution ends, with every device's
result buffer holding the block of the device it receives from, both arguments unchanged, and every semaphore at zero.
-/
module

public import proofs.«01_k».proof.Proof.Body
public import Idealize.ShloMosaic.Lib.Pipeline.CollectiveSegs
public import Idealize.ShloMosaic.Lib.Quiescent

@[expose] public section

noncomputable section

namespace Cert.Perm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type}

local notation "𝕄" => MT nD τ sig Unit (Elt F) ℕ UU ℕ

variable (σ : Equiv.Perm (Fin 4)) (m : (ℓ : Loc nD τ sig) → Buf (Elt F) ℓ)

/-! ## The ghost state of the launch -/

/-- Sums over a device's semaphores, written out. -/
theorem three (Φ : Fin 3 → sProp 𝕄) : bigSep Finset.univ Φ = iprop(Φ 0 ∗ Φ 1 ∗ Φ 2) := bigSep_univ_eq_bigSepL [0, 1, 2] (by decide) (by decide) Φ

/-- All semaphores of the exchange, -/
def cells : Finset (GSem nD τ sig) := Finset.univ.map ⟨cell, cell_inj⟩
/-- their duties, -/
def toks : Finset (GSem nD τ sig × ℕ × Unit) := Finset.univ.map ⟨fun ck => (cell ck, 0, ()), fun _ _ h => cell_inj (congrArg Prod.fst h)⟩

/-- and the ghost state that the launch starts from. -/
def u₀ : UU := (initOf (Pipeline.cells cfgs cellOf_inj) (Pipeline.launchToks cfgs cellOf_inj), initOf cells toks)

/-- What the launch deals a device: for each of its semaphores the round's state, its turn, that the round is reached, and the right to pay it. -/
def dealt (ck : Dev nD × Fin 3) : sProp 𝕄 :=
  iprop(roundState ER (plan σ m) (cell ck) 0 ∗ (atPos ER (cell ck) 0 ∅ 0 ∗ reached ER (cell ck) 0) ∗ dutyTok ER (cell ck) 0 ())
/-- What it deals a device for its three semaphores together. -/
def G (c : Dev nD) : sProp 𝕄 := bigSep Finset.univ fun k : Fin 3 => dealt σ m (c, k)

/-- The exchange's ghost state at launch is dealt out to the devices. -/
theorem deal : BI.own (ER (initOf cells toks)) ⊢ (|==> bigSep Finset.univ (G σ m) : sProp 𝕄) := by
  have hG : bigSep Finset.univ (G σ m) = bigSep Finset.univ (dealt (F := F) σ m) := by
    rw [bigSep_univ_prod]; rfl
  have hc (Φ : GSem nD τ sig → sProp 𝕄) : bigSep cells Φ = bigSep Finset.univ fun ck => Φ (cell ck) := by
    unfold cells; rw [bigSep_map]; rfl
  have ht : bigSep toks (fun x => (dutyTok ER x.1 x.2.1 x.2.2 : sProp 𝕄)) = bigSep Finset.univ fun ck => dutyTok ER (cell ck) 0 () := by
    unfold toks; rw [bigSep_map]; rfl
  rw [hG]
  unfold dealt
  rw [bigSep_sep', bigSep_sep', bigSep_sep', ← hc fun g => roundState ER (plan σ m) g 0, ← hc fun g => atPos ER g 0 ∅ 0, ← hc fun g => reached ER g 0, ← ht]
  iintro H
  imod (Rounds.fund ER (plan σ m) cells toks) $$ H with ⟨Hst, Hr, Hat, Htok⟩
  imodintro
  isplitl [Hst]; · iexact Hst
  isplitl [Hat Hr]
  · isplitl [Hat] <;> iassumption
  iexact Htok

/-! ## The semaphores at launch -/

/-- The two semaphores of a launch are the copy's two ends, -/
theorem own_sems (c : Dev nD) : (Pipeline.ownSems0 (Ix := Unit) (Name := ℕ) (U := UU) (Lvl := ℕ) (Val := Elt F) (τ := τ) own c : sProp 𝕄)
    = iprop(semVal (snd c) 0 ∗ semVal (rcv c) 0) := by
  rw [Pipeline.ownSems0_eq_of_list c own [0, 1] (by decide) (by decide)]; rfl
/-- the one outside it is the barrier, -/
theorem barrier_sem (c : Dev nD) : (unscopedSems0 c : sProp 𝕄) = semVal (bar c) 0 := by
  unfold unscopedSems0; rw [bigSep_eq_bigSepL_of_eq [SemLoc.reg barS] (by decide) (by decide)]; rfl
/-- and together they are the device's three. -/
theorem all_sems (c : Dev nD) :
    iprop(Pipeline.ownSems0 (Ix := Unit) (Name := ℕ) (U := UU) (Lvl := ℕ) (Val := Elt F) (τ := τ) own c ∗ unscopedSems0 c)
      ⊢ (bigSep Finset.univ fun k : Fin 3 => semVal (cell (c, k)) 0 : sProp 𝕄) := by
  rw [own_sems, barrier_sem, three]
  iintro ⟨⟨Hs, Hr⟩, Hb⟩
  isplitl [Hb]; · iexact Hb
  isplitl [Hs] <;> iassumption

/-- A semaphore at zero and its round's state make a shared record. -/
theorem record (ck : Dev nD × Fin 3) :
    iprop(semVal (cell ck) 0 ∗ roundState ER (plan σ m) (cell ck) 0) ⊢ (|={Set.univ}=> iprop(∃ κ : ℕ, cellInv ER (plan σ m) κ (cell ck)) : sProp 𝕄) :=
  (Rounds.body_intro ER (plan σ m) (cell ck)).trans inv_alloc

/-- Every semaphore of every device has a record and has reached the round. -/
def records (K : Dev nD × Fin 3 → ℕ) : sProp 𝕄 :=
  bigSep Finset.univ fun ck : Dev nD × Fin 3 => iprop(cellInv ER (plan σ m) (K ck) (cell ck) ∗ reached ER (cell ck) 0)
/-- Records can be used any number of times. -/
instance records_persistent (K : Dev nD × Fin 3 → ℕ) : BI.Persistent (records σ m K) := by unfold records; infer_instance
/-- Any one of them can be read off, -/
theorem record_at (K : Dev nD × Fin 3 → ℕ) (ck : Dev nD × Fin 3) :
    records σ m K ⊢ iprop(cellInv ER (plan σ m) (K ck) (cell ck) ∗ reached ER (cell ck) 0) := bigSep_elim (Finset.mem_univ ck)

/-- and so can those that device `c` acts on. -/
theorem shared_intro (K : Dev nD × Fin 3 → ℕ) (c : Dev nD) : records σ m K ⊢ shared σ m K c := by
  unfold shared
  iintro #H
  ihave ⟨#Hb, -⟩ := (record_at σ m K (c, 0)) $$ H
  ihave ⟨#Hs, #Rs⟩ := (record_at σ m K (c, 1)) $$ H
  ihave ⟨#Hr, -⟩ := (record_at σ m K (c, 2)) $$ H
  ihave ⟨#Hb', #Rb⟩ := (record_at σ m K (src σ c, 0)) $$ H
  ihave ⟨#Hr', #Rr⟩ := (record_at σ m K (dst σ c, 2)) $$ H
  isplitr; · iexact Hb
  isplitr; · iexact Hs
  isplitr; · iexact Hr
  isplitr; · iexact Hb'
  isplitr; · iexact Hr'
  isplitr; · iexact Rb
  isplitr; · iexact Rs
  iexact Rr

/-- The rights to pay, dealt to the owners of the semaphores, go round to the devices that pay them. -/
theorem pass_round : (bigSep Finset.univ fun ck => dutyTok ER (cell ck) 0 () : sProp 𝕄) ⊢ bigSep Finset.univ fun c => dues σ c := by
  rw [bigSep_univ_prod, bigSep_congr (s := Finset.univ) fun c _ => three fun k => (dutyTok ER (cell (c, k)) 0 () : sProp 𝕄)]
  unfold dues
  rw [bigSep_sep', bigSep_sep', bigSep_sep', bigSep_sep',
    bigSep_univ_equiv (ring σ).symm (fun c : Dev nD => (dutyTok ER (cell (c, 0)) 0 () : sProp 𝕄)),
    bigSep_univ_equiv (ring σ) (fun c : Dev nD => (dutyTok ER (cell (c, 2)) 0 () : sProp 𝕄))]
  iintro ⟨H0, H1, H2⟩
  isplitl [H0]; · iexact H0
  isplitl [H1]; · iexact H1
  iexact H2

/-- What a device brings to the launch, under some names of the records. -/
def G' (c : Dev nD) : sProp 𝕄 := iprop(∃ K, ghost σ m K c)

/-- Records, turns and dues make what each device brings. -/
theorem each_ghost (K : Dev nD × Fin 3 → ℕ) : iprop(records σ m K ∗ bigSep Finset.univ (fun c : Dev nD => iprop(turns c ∗ dues σ c))) ⊢ bigSep Finset.univ (G' σ m) := by
  refine (sep_mono_left (BI.bigSep_of_persistent (Finset.univ : Finset (Dev nD)) (records σ m K))).trans ?_
  rw [← bigSep_sep']
  refine bigSep_mono fun c _ => ?_
  show iprop(records σ m K ∗ turns c ∗ dues σ c) ⊢ G' σ m c
  unfold G' ghost
  iintro ⟨HR, Ht, Hd⟩
  iexists K
  isplitl [HR]; · iapply (shared_intro σ m K c); iexact HR
  isplitl [Ht] <;> iassumption

/-- Once every semaphore has its record, every device has what it starts with. -/
theorem share_out : (bigSep Finset.univ fun ck => iprop((∃ κ : ℕ, cellInv ER (plan σ m) κ (cell ck)) ∗ (atPos ER (cell ck) 0 ∅ 0 ∗ reached ER (cell ck) 0) ∗ dutyTok ER (cell ck) 0 ()) : sProp 𝕄)
    ⊢ bigSep Finset.univ (G' σ m) := by
  rw [bigSep_sep', bigSep_sep', bigSep_sep']
  iintro ⟨HI, ⟨Hat, HR⟩, Htok⟩
  ihave HK := (BI.bigSep_exists_pi Finset.univ (fun (ck : Dev nD × Fin 3) (κ : ℕ) => (cellInv ER (plan σ m) κ (cell ck) : sProp 𝕄))) $$ HI
  icases HK with ⟨%K, HI⟩
  ihave Hd := (pass_round (F := F) σ) $$ Htok
  iapply (each_ghost σ m K)
  rw [bigSep_sep']
  isplitl [HI HR]
  · unfold records; rw [bigSep_sep']; isplitl [HI] <;> iassumption
  isplitl [Hat]
  · iapply (show (bigSep Finset.univ fun ck => (atPos ER (cell ck) 0 ∅ 0 : sProp 𝕄)) ⊢ bigSep Finset.univ fun c => turns c from Entails.of_eq (by
      rw [bigSep_univ_prod]; exact bigSep_congr fun c _ => three _))
    iexact Hat
  iexact Hd

/-- All devices' semaphores become shared records at once, and every device has its rights. -/
theorem set_up : (bigSep Finset.univ fun c => iprop(Pipeline.ownSems0 (Ix := Unit) (Name := ℕ) (U := UU) (Lvl := ℕ) (Val := Elt F) (τ := τ) own c ∗ unscopedSems0 c ∗ G σ m c) : sProp 𝕄)
    ⊢ |={Set.univ}=> bigSep Finset.univ (G' σ m) := by
  -- every semaphore with what was dealt for it
  have h1 : (bigSep Finset.univ fun c => iprop(Pipeline.ownSems0 (Ix := Unit) (Name := ℕ) (U := UU) (Lvl := ℕ) (Val := Elt F) (τ := τ) own c ∗ unscopedSems0 c ∗ G σ m c) : sProp 𝕄)
      ⊢ bigSep Finset.univ fun ck => iprop(semVal (cell ck) 0 ∗ dealt σ m ck) := by
    rw [bigSep_univ_prod]
    refine bigSep_mono fun c _ => ?_
    rw [bigSep_sep']
    show iprop(Pipeline.ownSems0 (Ix := Unit) (Name := ℕ) (U := UU) (Lvl := ℕ) (Val := Elt F) (τ := τ) own c ∗ unscopedSems0 c ∗ G σ m c)
      ⊢ iprop((bigSep Finset.univ fun k : Fin 3 => semVal (cell (c, k)) 0) ∗ (bigSep Finset.univ fun k : Fin 3 => dealt σ m (c, k)))
    unfold G
    iintro ⟨Ho, Hu, HG⟩
    isplitl [Ho Hu]
    · iapply (all_sems (F := F) c); isplitl [Ho] <;> iassumption
    iexact HG
  -- each makes its record
  have h2 (ck : Dev nD × Fin 3) : iprop(semVal (cell ck) 0 ∗ dealt σ m ck)
      ⊢ (|={Set.univ}=> iprop((∃ κ : ℕ, cellInv ER (plan σ m) κ (cell ck)) ∗ (atPos ER (cell ck) 0 ∅ 0 ∗ reached ER (cell ck) 0) ∗ dutyTok ER (cell ck) 0 ()) : sProp 𝕄) := by
    unfold dealt
    iintro ⟨Hv, Hst, Hrest⟩
    imod (record σ m ck) $$ [Hv Hst] with HI
    · isplitl [Hv] <;> iassumption
    imodintro
    isplitl [HI] <;> iassumption
  refine h1.trans (((bigSep_mono fun ck _ => h2 ck).trans (bigSep_fupd _ _)).trans (BI.fupd_mono (share_out σ m)))

/-! ## The launch theorem's other conditions -/

/-- The launch credits a device with what the others owe its barrier and its reception. -/
theorem credits (c : Dev nD) : (Pipeline.launchCred (debt σ) c : sProp 𝕄) ⊢ iprop(cred (tallyAt (rcv c) () N) ∗ cred (tallyAt (bar c) () 1)) := by
  rw [show debt σ = fun d => tallyAt (rcv (dst σ d)) () N + tallyAt (bar (src σ d)) () 1 from rfl, Pipeline.launchCred_add]
  exact BIClass.sep_mono (Pipeline.launchCred_tallyAt (sems 2) (dst σ) (src σ) (dst_src σ) (src_dst σ) () N c)
    (Pipeline.launchCred_tallyAt (sems 0) (src σ) (dst σ) (src_dst σ) (dst_src σ) () 1 c)

/-- A device's memory, credits and ghost state at launch are what it enters with. -/
theorem enter (ρ : Dev nD → PrngReg) (c : Dev nD) :
    iprop(Pipeline.unscopedRestP Pipeline.Prefetch.none cfg0.spec c (fun b => m ((c : Thread nD τ).loc b)) ∗ levAts L lv
        ∗ Pipeline.launchCred (debt σ) c ∗ prngReg c (ρ c) ∗ G' σ m c)
      ⊢ |={Set.univ}=> iprop(entering σ m c ∗ emp) := by
  rw [show (Pipeline.unscopedRestP Pipeline.Prefetch.none cfg0.spec c (fun b => m ((c : Thread nD τ).loc b)) : sProp 𝕄)
    = iprop((((c : Thread nD τ).loc main_arg0) ↦{fullShare} m ((c : Thread nD τ).loc main_arg0)) ∗ (((c : Thread nD τ).loc main_v1) ↦{fullShare} m ((c : Thread nD τ).loc main_v1)))
    from unscopedRest0_eq c fun b => m ((c : Thread nD τ).loc b)]
  iintro ⟨⟨Hx, Hy⟩, Hlev, Hcr, -, HG⟩
  ihave Hc := (credits (F := F) σ c) $$ Hcr
  icases Hc with ⟨HcR, HcB⟩
  imodintro
  unfold entering G'
  rw [xPts_eq]
  isplitl
  · isplitl [HG]; · iexact HG
    isplitl [HcB]; · iexact HcB
    isplitl [HcR]; · iexact HcR
    isplitl [Hlev]; · iexact Hlev
    isplitl [Hx]; · iexact Hx
    iexists (m ((c : Thread nD τ).loc main_v1)); rw [yPts_eq]; iexact Hy
  · iempintro

/-- What a device ends with, besides its own two semaphores. -/
def after (c : Dev nD) : sProp 𝕄 := iprop((xPts m c ∗ yPts c (landed σ m c)) ∗ unscopedSems0 c)

/-- What it leaves with splits into its two buffers and barrier, and the launch's two semaphores. -/
theorem leave (c : Dev nD) : leaving σ m c ⊢ iprop(after σ m c ∗ Pipeline.ownSems0 own c ∗ Pipeline.scopedRest cfg0.spec c) := by
  rw [scopedRest0_eq, own_sems]
  unfold leaving after
  rw [barrier_sem]
  iintro ⟨Hx, Hy, Hb, Hs, Hr⟩
  isplitl [Hx Hy Hb]
  · isplitl [Hx Hy]
    · isplitl [Hx] <;> iassumption
    iexact Hb
  isplitl [Hs Hr]
  · isplitl [Hs] <;> iassumption
  iempintro

/-- What a final memory says of device `c` outside the table's window. -/
def Ends (c : Dev nD) (s : MemSt nD τ sig (Elt F)) : Prop :=
  (s.mem ((c : Thread nD τ).loc main_arg0) = m ((c : Thread nD τ).loc main_arg0) ∧ s.mem ((c : Thread nD τ).loc main_v1) = landed σ m c)
    ∧ ∀ sm : SemLoc sig, sm.isScoped .tc = false → s.sem ((c.tc : Thread nD τ), sm) = 0

/-- What a device ends with says what the final memory holds. -/
theorem read_after (c : Dev nD) (s' : Phys nD τ sig (Elt F)) :
    iprop(after σ m c ∗ emp ∗ SI s') ⊢ (|={Set.univ}=> iprop(⌜Ends σ m c s'.mem⌝ ∗ SI s') : sProp 𝕄) := by
  unfold after
  rw [xPts_eq, yPts_eq]
  iintro ⟨⟨⟨Hx, Hy⟩, Hu⟩, -, HSI⟩
  icombine HSI Hx gives %hx
  icombine HSI Hy gives %hy
  imod (Pipeline.unscopedSems0_read (X := unscopedSems0 c) (c := c) fupd_intro s') $$ [Hu HSI] with ⟨%hu, HSI⟩
  · isplitl [Hu] <;> iassumption
  imodintro
  isplitr
  · ipureintro; exact ⟨⟨Buf.eq_of_forall_mem_univ hx, Buf.eq_of_forall_mem_univ hy⟩, hu⟩
  iexact HSI

/-- Before and after the body, a wait that is neither the barrier's nor the reception's is allowed. -/
theorem wait_any (c : Dev nD) (s : SemLoc sig) (h0 : s ≠ sems 0) (h2 : s ≠ sems 2) (t : Fin (cfg0.N + 1)) :
    (levAts L lv : sProp 𝕄) ⊢ MayWait (c : Thread nD τ) s () ((dats (F := F) σ m 0 c).owed t) := by
  rcases t with ⟨_ | _, ht⟩
  · exact wait_stage σ c s h0 h2
  · show _ ⊢ MayWait (c : Thread nD τ) s () 0
    rw [MayWait_zero]; iintro -; iempintro

/-! ## The run -/

variable [FloatOps F]

/-- The body on device `c` meets what the launch asks of it. -/
theorem obligation (h : Tbl σ m) (c : Dev nD) : BodyObligation (dats (F := F) σ m 0 c) (defs₀ (F := F)) Variants.none () Set.univ := fun t => by
  rw [only_pt t, bigSep_W0, bigSep_W0]
  simp only [owns_whole_eq]
  show bodyPre σ m c ⊢ Runs c (cc0_body (Memref.whole cc0_stg0_0) (Memref.isWhole_whole _) (Memref.whole main_arg0) (Memref.isWhole_whole _)
          (Memref.whole main_v1) (Memref.isWhole_whole _) cc0_scratch0 cc0_scratch1) (fun _ => bodyPost σ m c)
  iintro H
  iapply (body_runs σ m h c fun _ => bodyPost σ m c)
  isplitl [H]; · iexact H
  iintro H; iexact H

/-- A final memory: the result of every device is the block of the device it receives from, the arguments are unchanged. -/
def Exchanged (s : MemSt nD τ sig (Elt F)) : Prop :=
  ∀ c : Dev nD, s.mem ((c : Thread nD τ).loc main_v1) = landed σ m c
    ∧ s.mem ((c : Thread nD τ).loc main_arg0) = m ((c : Thread nD τ).loc main_arg0) ∧ s.mem ((c : Thread nD τ).loc main_arg1) = m ((c : Thread nD τ).loc main_arg1)

set_option maxRecDepth 8000 in
/-- THE RUN, for a table `σ`, at any float values. -/
theorem run (h : Tbl σ m) (ρ : Dev nD → PrngReg) :
    θ_run (defs (F := F)) (onTc (τ := τ) (main (F := F))) ⟨m, fun _ => 0, ρ⟩ (fun r => Exchanged σ m r.2 ∧ r.2.sem = fun _ => 0) :=
  Pipeline.θ_run_region_owing_glob_pf (fun p => (cfgs p).toPCfg) (fun p => (cfgs p).toPCfg_adm) (dats σ m) () cellOf_inj (0 : Fin 1)
    winFacts0.to₀ (by decide : Pipeline.OwnSemFacts cfg0.spec own) (Pipeline.PreFacts.none _) EP defs₀ Variants.none m ρ main
    (hmain := fun _ => rfl)
    (hbody := obligation σ m h) (hne := fun w => by fin_cases w; exact Nat.succ_pos _) (harr := arr_whole0) (hstage := stage_whole0)
    (hshare := fun c w => by unfold Dat.share; split <;> rfl)
    (hdistinct := winFacts0.arr_inj)
    (O₀ := debt σ) (howed₀ := fun _ => rfl) (howedN := fun _ => rfl)
    (L := L) (lv := lv) (hL := L_other)
    (hwaits := fun c => Pipeline.cellsWaits_intro cfgs (dats σ m) () 0 c fun w s t =>
      wait_any σ m c _ (by fin_cases w <;> fin_cases s <;> decide) (by fin_cases w <;> fin_cases s <;> decide) _)
    (G := G σ m) (G' := G' σ m) (u₀ := u₀)
    (hu₀ := by
      unfold u₀
      iintro Hu
      ihave H := (ownU_pair _ _) $$ Hu
      icases H with ⟨HP, HX⟩
      imod (deal σ m) $$ HX with HG
      imodintro
      isplitl [HP] <;> iassumption)
    (hglob := set_up σ m)
    (hA := fun _ _ => rfl) (hpf := fun _ k => k.elim0)
    (X := entering σ m) (Y := after σ m) (Z := fun _ => iprop(emp))
    (hX := enter σ m ρ)
    (hin := fun c => by
      show iprop(entering σ m c ∗ _ ∗ _) ⊢ entering σ m c
      iintro ⟨H, -, -⟩; iexact H)
    (hout := leave σ m)
    (QY := Ends σ m) (hY := read_after σ m)
    (hQ := fun s hr hs => ⟨fun c => ⟨(hr c).2.2.1.2, (hr c).2.2.1.1, ((hr c).1 0).trans ((dats (F := F) σ m 0 c).arrAt_in (0 : Fin 1) rfl _)⟩,
      sem_eq_zero hs fun c => (hr c).2.2.2⟩)

end Cert.Perm

end
-- ==== Proof.Reference.lean ====
/-
What the reference computes: the argsort of a permutation's table is the table of its inverse, wrapping negative
entries changes nothing, and the gather takes the blocks in the order of that table. Against the kernel: block `y` of
the result is block `σ⁻¹ y` of the argument, which is what the device at place `y` receives.
-/
module

public import proofs.«01_k».proof.Proof.Mesh
public import proofs.«01_k».proof.Proof.Gen.ReferenceIdeal
public import Idealize.ShloMosaic.Lib.Layout
public import Mathlib.Data.Fintype.Perm

@[expose] public section

noncomputable section

namespace Cert.Perm

open Cert.ReferenceIdeal Cert.ReferenceIdeal.Gen
open Idealize.ShloMosaic

/-! ## The order -/

/-- Sorting the places by the entries of a permutation's table puts at `k` the place whose entry is `k`. -/
theorem sorted_word : ∀ (σ : Equiv.Perm (Fin 4)) (k : Fin 4),
    sortedFrom (fun a b => IntOp.cmpi .slt (word σ a) (word σ b) == 1#1) k = σ.symm k := by decide +kernel

variable (σ : Equiv.Perm (Fin 4))

/-- The argsort of the table of `σ` is the table of its inverse. -/
theorem argsort_word (pi : IVec S4 32) (h : ∀ i : S4.Idx, pi i = word σ (i 0)) :
    (Host.sort2 S4 0 comparator_i32_i32_d0 pi (iotaInDim S4 32 0)).2 = fun j => word σ.symm (j 0) := by
  unfold Host.sort2
  rw [dif_pos (show 0 < S4.rank by decide)]
  funext j
  have hb : (fun k k' : Fin 4 => comparator_i32_i32_d0 (pi (j.along 0 k), iotaInDim S4 32 0 (j.along 0 k)) (pi (j.along 0 k'), iotaInDim S4 32 0 (j.along 0 k')) == 1#1)
      = fun a b => IntOp.cmpi .slt (word σ a) (word σ b) == 1#1 := by
    funext a b
    unfold comparator_i32_i32_d0
    simp only [h]
    rw [show (j.along 0 a) 0 = a from Function.update_self .., show (j.along 0 b) 0 = b from Function.update_self ..]
  show BitVec.ofNat 32 ((j.along 0 (sortedFrom _ (j 0))) 0).val = BitVec.ofNat 32 (σ.symm (j 0)).val
  rw [show (j.along 0 (sortedFrom _ (j 0))) 0 = _ from Function.update_self ..]
  exact congrArg (fun k : Fin 4 => BitVec.ofNat 32 k.val) ((congrArg (fun b => sortedFrom b (j 0)) hb).trans (sorted_word σ (j 0)))

/-- No entry is negative, so wrapping the negative ones changes nothing. -/
theorem wrap_word : ∀ y : Fin 4,
    Scalar.select (IntOp.cmpi .slt (BitVec.ofNat 32 y.val) 0#32) (IntOp.addi (BitVec.ofNat 32 y.val) 4#32) (BitVec.ofNat 32 y.val)
      = BitVec.ofNat 32 y.val := by decide +kernel

/-- An entry, read signed and kept inside the places, is the entry. -/
theorem clamp_word : ∀ y : Fin 4, min (BitVec.ofNat 32 y.val).toInt.toNat (4 - 1) = y.val := by decide +kernel

/-! ## The gather -/

/-- The index of a block of four at place `y` and the rest of `j`. -/
def at_place (j : S4x512x512.Idx) (y : Fin 4) : S4x512x512.Idx := Function.update j 0 y

/-- The gather reads, at `j`, the operand at the place that the index names for `j`'s place. -/
theorem gather_block {α : Type} (x : S4x512x512.Idx → α) (idx : IVec S4x1 32) (j : S4x512x512.Idx) (τ : Equiv.Perm (Fin 4))
    (h : ∀ i : S4x1.Idx, idx i = word τ (i 0)) :
    Host.gather gather_S4x512x512_S4x1_S4x512x512_12_0_n_n_0_1_1512512 x idx j = x (at_place j (τ (j 0))) := by
  unfold Host.gather
  congr 1
  funext a
  refine Fin.ext ?_
  show GatherDims.start _ j idx a + GatherDims.batchCoord _ j a + GatherDims.offCoord _ j a = _
  rw [GatherDims.batchCoord_eq_zero _ _ _ List.not_mem_nil, Nat.add_zero]
  fin_cases a
  · rw [GatherDims.offCoord_eq_zero _ _ _ (fun h => ((GatherDims.mem_sKept _ _).mp h).1 (List.mem_singleton.mpr rfl)), Nat.add_zero]
    unfold GatherDims.start
    refine (dif_pos (show (0 : Fin 3) ∈ gather_S4x512x512_S4x1_S4x512x512_12_0_n_n_0_1_1512512.startIndexMap from List.mem_singleton.mpr rfl)).trans ?_
    rw [h]
    exact clamp_word (τ (j 0))
  · exact Nat.zero_add _
  · exact Nat.zero_add _

/-- The reference's result as its operations write it. -/
def result {F : FTy → Type} (x : (⟨S4x512x512, .f32⟩ : BufTy).Contents (Elt F)) (pi : (⟨S4, .i32⟩ : BufTy).Contents (Elt F)) :
    (⟨S4x512x512, .f32⟩ : BufTy).Contents (Elt F) :=
  Host.gather gather_S4x512x512_S4x1_S4x512x512_12_0_n_n_0_1_1512512 x (broadcastInDim S4x1 ![0] bcast_S4_S4x1_0 (select (cmpi .slt ((Host.sort2 S4 0 comparator_i32_i32_d0 pi (iotaInDim S4 32 0)).2) (broadcastInDim S4 ![] bcast_S_S4 (constantI S_ 32 0#32))) (addi ((Host.sort2 S4 0 comparator_i32_i32_d0 pi (iotaInDim S4 32 0)).2) (broadcastInDim S4 ![] bcast_S_S4 (constantI S_ 32 4#32))) ((Host.sort2 S4 0 comparator_i32_i32_d0 pi (iotaInDim S4 32 0)).2)))

/-- At the table of `σ` the reference's result holds at place `y` the argument's block `σ⁻¹ y`. -/
theorem result_word {F : FTy → Type} (x : (⟨S4x512x512, .f32⟩ : BufTy).Contents (Elt F)) (pi : (⟨S4, .i32⟩ : BufTy).Contents (Elt F))
    (h : ∀ i : S4.Idx, (pi : IVec S4 32) i = word σ (i 0)) (j : S4x512x512.Idx) :
    result x pi j = x (at_place j (σ.symm (j 0))) := by
  unfold result
  rw [argsort_word σ pi h]
  exact gather_block x _ j σ.symm fun i => wrap_word (σ.symm (i 0))

/-! ## The blocks of the devices -/

/-- Where the block of device `c` lies in the whole array. -/
abbrev place (c : Fin 32) : (b : Fin 3) → Fin (Layout.cutSize [2, 4, 4] ((![[1], [], []] : Fin 3 → List ℕ) b)) :=
  Layout.meshBlock [2, 4, 4] ![[1], [], []] c

/-- The block of the whole array that device `c` holds. -/
abbrev block {F : FTy → Type} (c : Fin 32) (v : (⟨S4x512x512, .f32⟩ : BufTy).Contents (Elt F)) : (⟨⟨3, ![1, 512, 512]⟩, .f32⟩ : BufTy).Contents (Elt F) :=
  Layout.blockN ⟨3, ![1, 512, 512]⟩ ⟨3, ![4, 512, 512]⟩ (place c) v

/-- A device's block is at its place along the `y` axis. -/
theorem block_place : ∀ c : Fin 32, (place c 0).val = (row c).val := by decide +kernel

/-- The block of the result on device `c` is the block of the argument on the device that `c` receives from. -/
theorem block_result {F : FTy → Type} (x : (⟨S4x512x512, .f32⟩ : BufTy).Contents (Elt F)) (pi : (⟨S4, .i32⟩ : BufTy).Contents (Elt F))
    (h : ∀ i : S4.Idx, (pi : IVec S4 32) i = word σ (i 0)) (c : Fin 32) :
    block c (result x pi) = block (src σ c) x := by
  funext i
  show result x pi (Layout.TilesN.idx _ _ i) = x (Layout.TilesN.idx _ _ i)
  rw [result_word σ x pi h]
  congr 1
  have hi : (i 0).val = 0 := by have := (i 0).isLt; change (i 0).val < 1 at this; omega
  funext b
  refine Fin.ext ?_
  match b with
  | ⟨0, _⟩ =>
    have e : (Layout.TilesN.idx (S := ⟨3, ![1, 512, 512]⟩) (T := ⟨3, ![4, 512, 512]⟩) (by decide) (place c) i 0 : Fin 4) = row c := by
      refine Fin.ext ?_
      show (place c 0).val * 1 + (i 0).val = _
      rw [hi, block_place]; omega
    show (σ.symm _).val = (place (src σ c) 0).val * 1 + (i 0).val
    rw [e, hi, block_place]
    unfold src; rw [row_move]; omega
  | ⟨1, _⟩ => rfl
  | ⟨2, _⟩ => rfl

end Cert.Perm

end
-- ==== Proof.Claims.lean ====
/-
The claims, for any literal table that is the table of a permutation: the frames of the three programs and the value
claim. Each claim of the certificate is one of these at one literal table.
-/
module

public import proofs.«01_k».proof.Proof.Run
public import proofs.«01_k».proof.Proof.Reference
public import proofs.«01_k».proof.Proof.Gen.Kernel
public import proofs.«01_k».proof.Proof.Gen.ReferenceIdeal.Run
public import Idealize.ShloMosaic.PureOps.BitExact
public import Idealize.ShloMosaic.PureOps.Ideal

@[expose] public section

noncomputable section

namespace Cert.Perm

open Idealize.ShloMosaic Idealize.ShloMosaic.TcCoe Idealize.SL.Sem
open Cert.KernelIdeal (S4)

/-- The literal table `t` is the table of a permutation. -/
def Permutes (t : Fin 4 → BitVec 32) : Prop := ∃ σ : Equiv.Perm (Fin 4), ∀ y, t y = word σ y
/-- Whether a table is one of a permutation can be decided. -/
instance (t : Fin 4 → BitVec 32) : Decidable (Permutes t) := by unfold Permutes; infer_instance

/-- An argument equals the literal table `t`, as a precondition says it. -/
def Is (t : Fin 4 → BitVec 32) (pi : IVec S4 32) : Prop := cmpi .eq pi (fun i => t (S4.rowMajor i)) = fun _ => 1#1

/-- An argument that equals the table of `σ` has its entries. -/
theorem Is.entry {t : Fin 4 → BitVec 32} {pi : IVec S4 32} (h : Is t pi) {σ : Equiv.Perm (Fin 4)} (ht : ∀ y, t y = word σ y) (i : S4.Idx) :
    pi i = word σ (i 0) := by
  have h1 : BitVec.ofBool (pi i == t (S4.rowMajor i)) = 1#1 := congrFun h i
  have h2 : pi i = t (S4.rowMajor i) := by
    cases hb : pi i == t (S4.rowMajor i)
    · rw [hb] at h1; exact absurd h1 (by decide)
    · exact eq_of_beq hb
  exact h2.trans ((ht _).trans (congrArg (word σ) (Fin.ext (Shape.rowMajor_val_one i))))

variable {t : Fin 4 → BitVec 32}

section Runs
variable {F : FTy → Type} [FloatOps F] (m : (ℓ : Loc KernelIdeal.nD KernelIdeal.τ KernelIdeal.sig) → Buf (Elt F) ℓ)

/-- From a memory whose table arguments are all `t` the kernel ends, its arguments unchanged and its semaphores at zero. -/
theorem frame_of (h : ∀ c : Dev KernelIdeal.nD, Is t (m ((c : Thread KernelIdeal.nD KernelIdeal.τ).loc KernelIdeal.main_arg1))) (ρ : Dev KernelIdeal.nD → PrngReg) (ht : Permutes t) :
    θ_run (KernelIdeal.defs (F := F)) (onTc (τ := KernelIdeal.τ) (KernelIdeal.main (F := F))) ⟨m, fun _ => 0, ρ⟩ (fun r => (∀ c : Dev KernelIdeal.nD,
      r.2.mem ((c : Thread KernelIdeal.nD KernelIdeal.τ).loc KernelIdeal.main_arg0) = m ((c : Thread KernelIdeal.nD KernelIdeal.τ).loc KernelIdeal.main_arg0)
      ∧ r.2.mem ((c : Thread KernelIdeal.nD KernelIdeal.τ).loc KernelIdeal.main_arg1) = m ((c : Thread KernelIdeal.nD KernelIdeal.τ).loc KernelIdeal.main_arg1))
      ∧ r.2.sem = fun _ => 0) := by
  obtain ⟨σ, hσ⟩ := ht
  exact (θ_run _ _ _).mono (fun _ hr => ⟨fun c => (hr.1 c).2, hr.2⟩) (run σ m (fun c i => (h c).entry hσ i) ρ)

/-- The printed program and its ideal reading have the same bodies, -/
theorem bodies_eq : Kernel.defs₀ (F := F) = KernelIdeal.defs₀ (F := F) := by
  funext p l a
  cases p with
  | tc =>
    obtain ⟨n, hn⟩ := l
    cases n with
    | zero => obtain ⟨t, s⟩ := a; rfl
    | succ n => exact absurd hn (Nat.not_lt.2 (Nat.le_add_left _ _))
  | scScalar _ => rfl
  | scVector _ _ => rfl
/-- and so the same table. -/
theorem defs_eq : Kernel.defs (F := F) = KernelIdeal.defs (F := F) := congrArg (Pipeline.defs Kernel.pcfgs) (bodies_eq (F := F))

end Runs

/-- The frame of the kernel at the chip's floats. -/
theorem frame_kernel (ht : Permutes t) (m : (ℓ : Loc Kernel.nD Kernel.τ Kernel.sig) → Buf (Elt Bits) ℓ) (ρ : Dev Kernel.nD → PrngReg)
    (h : ∀ c : Dev Kernel.nD, Is t (m ((c : Thread Kernel.nD Kernel.τ).loc Kernel.main_arg1))) :
    θ_run (Kernel.defs (F := Bits)) (onTc (τ := Kernel.τ) (Kernel.main (F := Bits))) ⟨m, fun _ => 0, ρ⟩ (fun r => (∀ c : Dev Kernel.nD,
      r.2.mem ((c : Thread Kernel.nD Kernel.τ).loc Kernel.main_arg0) = m ((c : Thread Kernel.nD Kernel.τ).loc Kernel.main_arg0)
      ∧ r.2.mem ((c : Thread Kernel.nD Kernel.τ).loc Kernel.main_arg1) = m ((c : Thread Kernel.nD Kernel.τ).loc Kernel.main_arg1))
      ∧ r.2.sem = fun _ => 0) := by
  rw [defs_eq]
  exact frame_of (F := Bits) m h ρ ht

/-- The frame of the kernel at the ideal floats. -/
theorem frame_ideal (ht : Permutes t) (m : (ℓ : Loc KernelIdeal.nD KernelIdeal.τ KernelIdeal.sig) → Buf (Elt Ideal) ℓ) (ρ : Dev KernelIdeal.nD → PrngReg)
    (h : ∀ c : Dev KernelIdeal.nD, Is t (m ((c : Thread KernelIdeal.nD KernelIdeal.τ).loc KernelIdeal.main_arg1))) :
    θ_run (KernelIdeal.defs (F := Ideal)) (onTc (τ := KernelIdeal.τ) (KernelIdeal.main (F := Ideal))) ⟨m, fun _ => 0, ρ⟩ (fun r => (∀ c : Dev KernelIdeal.nD,
      r.2.mem ((c : Thread KernelIdeal.nD KernelIdeal.τ).loc KernelIdeal.main_arg0) = m ((c : Thread KernelIdeal.nD KernelIdeal.τ).loc KernelIdeal.main_arg0)
      ∧ r.2.mem ((c : Thread KernelIdeal.nD KernelIdeal.τ).loc KernelIdeal.main_arg1) = m ((c : Thread KernelIdeal.nD KernelIdeal.τ).loc KernelIdeal.main_arg1))
      ∧ r.2.sem = fun _ => 0) := frame_of (F := Ideal) m h ρ ht

/-- The reference ends with its arguments unchanged; it has no semaphores. -/
theorem frame_reference (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => (∀ c : Dev ReferenceIdeal.nD,
      r.2.mem ((c : Thread ReferenceIdeal.nD ReferenceIdeal.τ).loc ReferenceIdeal.main_arg0) = m ((c : Thread ReferenceIdeal.nD ReferenceIdeal.τ).loc ReferenceIdeal.main_arg0)
      ∧ r.2.mem ((c : Thread ReferenceIdeal.nD ReferenceIdeal.τ).loc ReferenceIdeal.main_arg1) = m ((c : Thread ReferenceIdeal.nD ReferenceIdeal.τ).loc ReferenceIdeal.main_arg1))
      ∧ r.2.sem = fun _ => 0) :=
  (θ_run _ _ _).mono (fun r h => ⟨fun c => (h c).2, sem_eq_zero_of_no_sems (by decide) _⟩) (ReferenceIdeal.Value.run m ρ)

/-- THE VALUE: where each device holds its block of the reference's array, and the table, each ends holding its block of the
    reference's result. -/
theorem value (ht : Permutes t) (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (ρ' : Dev ReferenceIdeal.nD → PrngReg)
    (h : ∀ c : Dev KernelIdeal.nD, Is t (m ((c : Thread KernelIdeal.nD KernelIdeal.τ).loc KernelIdeal.main_arg1)))
    (hm : ∀ c : Dev KernelIdeal.nD,
      m ((c : Thread KernelIdeal.nD KernelIdeal.τ).loc KernelIdeal.main_arg0)
          = Layout.blockN ⟨3, ![1, 512, 512]⟩ ⟨3, ![4, 512, 512]⟩ (Layout.meshBlock [2, 4, 4] ![[1], [], []] c) (m' (((0 : Dev ReferenceIdeal.nD) : Thread ReferenceIdeal.nD ReferenceIdeal.τ).loc ReferenceIdeal.main_arg0))
        ∧ m ((c : Thread KernelIdeal.nD KernelIdeal.τ).loc KernelIdeal.main_arg1) = m' (((0 : Dev ReferenceIdeal.nD) : Thread ReferenceIdeal.nD ReferenceIdeal.τ).loc ReferenceIdeal.main_arg1)) :
    ∃ v0 : Buf (Elt Ideal) (((0 : Dev ReferenceIdeal.nD) : Thread ReferenceIdeal.nD ReferenceIdeal.τ).loc ReferenceIdeal.main_v7),
      θ_run (KernelIdeal.defs (F := Ideal)) (onTc (τ := KernelIdeal.τ) (KernelIdeal.main (F := Ideal))) ⟨m, fun _ => 0, ρ⟩ (fun r => ∀ c : Dev KernelIdeal.nD,
          r.2.mem ((c : Thread KernelIdeal.nD KernelIdeal.τ).loc KernelIdeal.main_v1) = Layout.blockN ⟨3, ![1, 512, 512]⟩ ⟨3, ![4, 512, 512]⟩ (Layout.meshBlock [2, 4, 4] ![[1], [], []] c) v0
          ∧ r.2.mem ((c : Thread KernelIdeal.nD KernelIdeal.τ).loc KernelIdeal.main_arg0) = m ((c : Thread KernelIdeal.nD KernelIdeal.τ).loc KernelIdeal.main_arg0)
          ∧ r.2.mem ((c : Thread KernelIdeal.nD KernelIdeal.τ).loc KernelIdeal.main_arg1) = m ((c : Thread KernelIdeal.nD KernelIdeal.τ).loc KernelIdeal.main_arg1))
      ∧ θ_run (ReferenceIdeal.defs (F := Ideal)) (onTc (τ := ReferenceIdeal.τ) (ReferenceIdeal.main (F := Ideal))) ⟨m', fun _ => 0, ρ'⟩ (fun r =>
          r.2.mem (((0 : Dev ReferenceIdeal.nD) : Thread ReferenceIdeal.nD ReferenceIdeal.τ).loc ReferenceIdeal.main_v7) = v0
          ∧ r.2.mem (((0 : Dev ReferenceIdeal.nD) : Thread ReferenceIdeal.nD ReferenceIdeal.τ).loc ReferenceIdeal.main_arg0) = m' (((0 : Dev ReferenceIdeal.nD) : Thread ReferenceIdeal.nD ReferenceIdeal.τ).loc ReferenceIdeal.main_arg0)
          ∧ r.2.mem (((0 : Dev ReferenceIdeal.nD) : Thread ReferenceIdeal.nD ReferenceIdeal.τ).loc ReferenceIdeal.main_arg1) = m' (((0 : Dev ReferenceIdeal.nD) : Thread ReferenceIdeal.nD ReferenceIdeal.τ).loc ReferenceIdeal.main_arg1)) := by
  obtain ⟨σ, hσ⟩ := ht
  have hpi : ∀ i : S4.Idx, (m' (((0 : Dev ReferenceIdeal.nD) : Thread ReferenceIdeal.nD ReferenceIdeal.τ).loc ReferenceIdeal.main_arg1) : IVec S4 32) i = word σ (i 0) := by
    rw [← (hm 0).2]; exact (h 0).entry hσ
  refine ⟨result (F := Ideal) (m' (((0 : Dev ReferenceIdeal.nD) : Thread ReferenceIdeal.nD ReferenceIdeal.τ).loc ReferenceIdeal.main_arg0))
    (m' (((0 : Dev ReferenceIdeal.nD) : Thread ReferenceIdeal.nD ReferenceIdeal.τ).loc ReferenceIdeal.main_arg1)), ?_, ?_⟩
  · refine (θ_run _ _ _).mono (fun _ hr c => ⟨((hr.1 c).1.trans (hm (src σ c)).1).trans ?_, (hr.1 c).2⟩) (run σ m (fun c i => (h c).entry hσ i) ρ)
    exact (block_result σ _ _ hpi c).symm
  · exact (θ_run _ _ _).mono (fun _ hr => hr 0) (ReferenceIdeal.Value.run m' ρ')

end Cert.Perm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import proofs.«01_k».proof.Proof.Gen.Pre_pi_is_0123_Kernel
public import proofs.«01_k».proof.Proof.Gen.Pre_pi_is_0132_Kernel
public import proofs.«01_k».proof.Proof.Gen.Pre_pi_is_0213_Kernel
public import proofs.«01_k».proof.Proof.Gen.Pre_pi_is_0231_Kernel
public import proofs.«01_k».proof.Proof.Gen.Pre_pi_is_0312_Kernel
public import proofs.«01_k».proof.Proof.Gen.Pre_pi_is_0321_Kernel
public import proofs.«01_k».proof.Proof.Gen.Pre_pi_is_1023_Kernel
public import proofs.«01_k».proof.Proof.Gen.Pre_pi_is_1032_Kernel
public import proofs.«01_k».proof.Proof.Gen.Pre_pi_is_1203_Kernel
public import proofs.«01_k».proof.Proof.Gen.Pre_pi_is_1230_Kernel
public import proofs.«01_k».proof.Proof.Gen.Pre_pi_is_1302_Kernel
public import proofs.«01_k».proof.Proof.Gen.Pre_pi_is_1320_Kernel
public import proofs.«01_k».proof.Proof.Gen.Pre_pi_is_2013_Kernel
public import proofs.«01_k».proof.Proof.Gen.Pre_pi_is_2031_Kernel
public import proofs.«01_k».proof.Proof.Gen.Pre_pi_is_2103_Kernel
public import proofs.«01_k».proof.Proof.Gen.Pre_pi_is_2130_Kernel
public import proofs.«01_k».proof.Proof.Gen.Pre_pi_is_2301_Kernel
public import proofs.«01_k».proof.Proof.Gen.Pre_pi_is_2310_Kernel
public import proofs.«01_k».proof.Proof.Gen.Pre_pi_is_3012_Kernel
public import proofs.«01_k».proof.Proof.Gen.Pre_pi_is_3021_Kernel
public import proofs.«01_k».proof.Proof.Gen.Pre_pi_is_3102_Kernel
public import proofs.«01_k».proof.Proof.Gen.Pre_pi_is_3120_Kernel
public import proofs.«01_k».proof.Proof.Gen.Pre_pi_is_3201_Kernel
public import proofs.«01_k».proof.Proof.Gen.Pre_pi_is_3210_Kernel
public import proofs.«01_k».proof.Proof.Gen.Pre_pi_is_0123_ReferenceIdeal
public import proofs.«01_k».proof.Proof.Gen.Pre_pi_is_0132_ReferenceIdeal
public import proofs.«01_k».proof.Proof.Gen.Pre_pi_is_0213_ReferenceIdeal
public import proofs.«01_k».proof.Proof.Gen.Pre_pi_is_0231_ReferenceIdeal
public import proofs.«01_k».proof.Proof.Gen.Pre_pi_is_0312_ReferenceIdeal
public import proofs.«01_k».proof.Proof.Gen.Pre_pi_is_0321_ReferenceIdeal
public import proofs.«01_k».proof.Proof.Gen.Pre_pi_is_1023_ReferenceIdeal
public import proofs.«01_k».proof.Proof.Gen.Pre_pi_is_1032_ReferenceIdeal
public import proofs.«01_k».proof.Proof.Gen.Pre_pi_is_1203_ReferenceIdeal
public import proofs.«01_k».proof.Proof.Gen.Pre_pi_is_1230_ReferenceIdeal
public import proofs.«01_k».proof.Proof.Gen.Pre_pi_is_1302_ReferenceIdeal
public import proofs.«01_k».proof.Proof.Gen.Pre_pi_is_1320_ReferenceIdeal
public import proofs.«01_k».proof.Proof.Gen.Pre_pi_is_2013_ReferenceIdeal
public import proofs.«01_k».proof.Proof.Gen.Pre_pi_is_2031_ReferenceIdeal
public import proofs.«01_k».proof.Proof.Gen.Pre_pi_is_2103_ReferenceIdeal
public import proofs.«01_k».proof.Proof.Gen.Pre_pi_is_2130_ReferenceIdeal
public import proofs.«01_k».proof.Proof.Gen.Pre_pi_is_2301_ReferenceIdeal
public import proofs.«01_k».proof.Proof.Gen.Pre_pi_is_2310_ReferenceIdeal
public import proofs.«01_k».proof.Proof.Gen.Pre_pi_is_3012_ReferenceIdeal
public import proofs.«01_k».proof.Proof.Gen.Pre_pi_is_3021_ReferenceIdeal
public import proofs.«01_k».proof.Proof.Gen.Pre_pi_is_3102_ReferenceIdeal
public import proofs.«01_k».proof.Proof.Gen.Pre_pi_is_3120_ReferenceIdeal
public import proofs.«01_k».proof.Proof.Gen.Pre_pi_is_3201_ReferenceIdeal
public import proofs.«01_k».proof.Proof.Gen.Pre_pi_is_3210_ReferenceIdeal
public import Idealize.ShloMosaic.Adequacy
public import Idealize.ShloMosaic.Init

@[expose] public section

noncomputable section

namespace Cert.Proof

open Idealize.ShloMosaic Idealize.SL.Sem Cert.Kernel

/-- All claims: each frame and each value is the general theorem of Claims.lean at one permutation. -/
theorem claim : Cert.Claim := by
  refine ⟨Cert.Kernel.Gen.facts,
    Cert.KernelIdeal.Gen.facts,
    Cert.ReferenceIdeal.Gen.facts,
    Cert.Pre_pi_is_0123_Kernel.Gen.facts,
    Cert.Pre_pi_is_0132_Kernel.Gen.facts,
    Cert.Pre_pi_is_0213_Kernel.Gen.facts,
    Cert.Pre_pi_is_0231_Kernel.Gen.facts,
    Cert.Pre_pi_is_0312_Kernel.Gen.facts,
    Cert.Pre_pi_is_0321_Kernel.Gen.facts,
    Cert.Pre_pi_is_1023_Kernel.Gen.facts,
    Cert.Pre_pi_is_1032_Kernel.Gen.facts,
    Cert.Pre_pi_is_1203_Kernel.Gen.facts,
    Cert.Pre_pi_is_1230_Kernel.Gen.facts,
    Cert.Pre_pi_is_1302_Kernel.Gen.facts,
    Cert.Pre_pi_is_1320_Kernel.Gen.facts,
    Cert.Pre_pi_is_2013_Kernel.Gen.facts,
    Cert.Pre_pi_is_2031_Kernel.Gen.facts,
    Cert.Pre_pi_is_2103_Kernel.Gen.facts,
    Cert.Pre_pi_is_2130_Kernel.Gen.facts,
    Cert.Pre_pi_is_2301_Kernel.Gen.facts,
    Cert.Pre_pi_is_2310_Kernel.Gen.facts,
    Cert.Pre_pi_is_3012_Kernel.Gen.facts,
    Cert.Pre_pi_is_3021_Kernel.Gen.facts,
    Cert.Pre_pi_is_3102_Kernel.Gen.facts,
    Cert.Pre_pi_is_3120_Kernel.Gen.facts,
    Cert.Pre_pi_is_3201_Kernel.Gen.facts,
    Cert.Pre_pi_is_3210_Kernel.Gen.facts,
    Cert.Pre_pi_is_0123_ReferenceIdeal.Gen.facts,
    Cert.Pre_pi_is_0132_ReferenceIdeal.Gen.facts,
    Cert.Pre_pi_is_0213_ReferenceIdeal.Gen.facts,
    Cert.Pre_pi_is_0231_ReferenceIdeal.Gen.facts,
    Cert.Pre_pi_is_0312_ReferenceIdeal.Gen.facts,
    Cert.Pre_pi_is_0321_ReferenceIdeal.Gen.facts,
    Cert.Pre_pi_is_1023_ReferenceIdeal.Gen.facts,
    Cert.Pre_pi_is_1032_ReferenceIdeal.Gen.facts,
    Cert.Pre_pi_is_1203_ReferenceIdeal.Gen.facts,
    Cert.Pre_pi_is_1230_ReferenceIdeal.Gen.facts,
    Cert.Pre_pi_is_1302_ReferenceIdeal.Gen.facts,
    Cert.Pre_pi_is_1320_ReferenceIdeal.Gen.facts,
    Cert.Pre_pi_is_2013_ReferenceIdeal.Gen.facts,
    Cert.Pre_pi_is_2031_ReferenceIdeal.Gen.facts,
    Cert.Pre_pi_is_2103_ReferenceIdeal.Gen.facts,
    Cert.Pre_pi_is_2130_ReferenceIdeal.Gen.facts,
    Cert.Pre_pi_is_2301_ReferenceIdeal.Gen.facts,
    Cert.Pre_pi_is_2310_ReferenceIdeal.Gen.facts,
    Cert.Pre_pi_is_3012_ReferenceIdeal.Gen.facts,
    Cert.Pre_pi_is_3021_ReferenceIdeal.Gen.facts,
    Cert.Pre_pi_is_3102_ReferenceIdeal.Gen.facts,
    Cert.Pre_pi_is_3120_ReferenceIdeal.Gen.facts,
    Cert.Pre_pi_is_3201_ReferenceIdeal.Gen.facts,
    Cert.Pre_pi_is_3210_ReferenceIdeal.Gen.facts,
    ?_⟩
  -- every claim is the general one at its literal table
  repeat' apply And.intro
  all_goals first
    | exact trivial
    | exact fun m ρ _ => Perm.frame_reference m ρ
    | exact fun m ρ h => Perm.frame_kernel (by decide +kernel) m ρ h
    | exact fun m ρ h => Perm.frame_ideal (by decide +kernel) m ρ h
    | exact fun m ρ m' ρ' h hm => Perm.value (by decide +kernel) m ρ m' ρ' h hm

end Cert.Proof

end
